-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x2048 : Shape := ⟨3, ![3, 512, 2048]⟩
abbrev S3x512x6144 : Shape := ⟨3, ![3, 512, 6144]⟩
abbrev S3x512 : Shape := ⟨2, ![3, 512]⟩
abbrev S2048x6144 : Shape := ⟨2, ![2048, 6144]⟩
abbrev S_ : Shape := ⟨0, ![]⟩
abbrev S1 : Shape := ⟨1, ![1]⟩
abbrev S1536x2048 : Shape := ⟨2, ![1536, 2048]⟩
abbrev S1536x6144 : Shape := ⟨2, ![1536, 6144]⟩
abbrev S1536x1 : Shape := ⟨2, ![1536, 1]⟩
abbrev S1536x512 : Shape := ⟨2, ![1536, 512]⟩
abbrev S2048x512 : Shape := ⟨2, ![2048, 512]⟩
abbrev S2048x1536 : Shape := ⟨2, ![2048, 1536]⟩
abbrev S8x512 : Shape := ⟨2, ![8, 512]⟩
abbrev S256x8x512 : Shape := ⟨3, ![256, 8, 512]⟩
abbrev S1x8x512 : Shape := ⟨3, ![1, 8, 512]⟩
abbrev S1x1x1 : Shape := ⟨3, ![1, 1, 1]⟩

abbrev nBuf : Space → Nat
  | .hbm => 20
  | .vmem => 13
  | .smem => 5
  | _ => 0

abbrev bufTy : (tb : Table) → Fin (tcTables nBuf tb) → BufTy
  | .hbm, ⟨0, _⟩ => ⟨S3x512x2048, .bf16⟩
  | .hbm, ⟨1, _⟩ => ⟨S3x512x6144, .fp8e5m2⟩
  | .hbm, ⟨2, _⟩ => ⟨S3x512, .f32⟩
  | .hbm, ⟨3, _⟩ => ⟨S2048x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1536x2048, .bf16⟩
  | .hbm, ⟨11, _⟩ => ⟨S1536x6144, .fp8e5m2⟩
  | .hbm, ⟨12, _⟩ => ⟨S1536x1, .f32⟩
  | .hbm, ⟨13, _⟩ => ⟨S1536x2048, .bf16⟩
  | .hbm, ⟨14, _⟩ => ⟨S2048x6144, .f32⟩
  | .hbm, ⟨15, _⟩ => ⟨S1, .f32⟩
  | .hbm, ⟨16, _⟩ => ⟨S1, .f32⟩
  | .hbm, ⟨17, _⟩ => ⟨S3x512x2048, .bf16⟩
  | .hbm, ⟨18, _⟩ => ⟨S_, .f32⟩
  | .hbm, ⟨19, _⟩ => ⟨S_, .f32⟩
  | .local _ .vmem, ⟨0, _⟩ => ⟨S1536x2048, .bf16⟩
  | .local _ .vmem, ⟨1, _⟩ => ⟨S1536x512, .fp8e5m2⟩
  | .local _ .vmem, ⟨2, _⟩ => ⟨S1536x512, .fp8e5m2⟩
  | .local _ .vmem, ⟨3, _⟩ => ⟨S1536x1, .f32⟩
  | .local _ .vmem, ⟨4, _⟩ => ⟨S2048x512, .f32⟩
  | .local _ .vmem, ⟨5, _⟩ => ⟨S2048x512, .f32⟩
  | .local _ .vmem, ⟨6, _⟩ => ⟨S1536x2048, .bf16⟩
  | .local _ .vmem, ⟨7, _⟩ => ⟨S2048x512, .f32⟩
  | .local _ .vmem, ⟨8, _⟩ => ⟨S2048x512, .f32⟩
  | .local _ .vmem, ⟨9, _⟩ => ⟨S1536x2048, .f32⟩
  | .local _ .vmem, ⟨10, _⟩ => ⟨S2048x1536, .bf16⟩
  | .local _ .vmem, ⟨11, _⟩ => ⟨S8x512, .f32⟩
  | .local _ .vmem, ⟨12, _⟩ => ⟨S8x512, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S3x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_stg10_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v60 : BitVec 1 := Scalar.cmpi .eq arg0 c11_i32
  let v61 : BitVec 32 := Scalar.extui v60
  let c0_i32_33 : BitVec 32 := 0#32
  let v62 : BitVec 1 := Scalar.cmpi .ne v61 c0_i32_33
  v62

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3x512x2048 : Shape := ⟨3, ![3, 512, 2048]⟩
abbrev S3x512x6144 : Shape := ⟨3, ![3, 512, 6144]⟩
abbrev S3x512 : Shape := ⟨2, ![3, 512]⟩
abbrev S2048x6144 : Shape := ⟨2, ![2048, 6144]⟩
abbrev S_ : Shape := ⟨0, ![]⟩
abbrev S3x512x1 : Shape := ⟨3, ![3, 512, 1]⟩

abbrev nBuf : Space → Nat
  | .hbm => 51
  | .vmem => 2
  | .smem => 0
  | _ => 0

abbrev bufTy : (tb : Table) → Fin (tcTables nBuf tb) → BufTy
  | .hbm, ⟨0, _⟩ => ⟨S3x512x2048, .bf16⟩
  | .hbm, ⟨1, _⟩ => ⟨S3x512x6144, .fp8e5m2⟩
  | .hbm, ⟨2, _⟩ => ⟨S3x512, .f32⟩
  | .hbm, ⟨3, _⟩ => ⟨S2048x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x6144, .f32⟩
  | .hbm, ⟨8, _⟩ => ⟨S2048x6144, .i1⟩
  | .hbm, ⟨9, _⟩ => ⟨S_, .f32⟩
  | .hbm, ⟨10, _⟩ => ⟨S2048x6144, .f32⟩
  | .hbm, ⟨11, _⟩ => ⟨S2048x6144, .i1⟩
  | .hbm, ⟨12, _⟩ => ⟨S3x512x6144, .bf16⟩
  | .hbm, ⟨13, _⟩ => ⟨S3x512, .bf16⟩
  | .hbm, ⟨14, _⟩ => ⟨S3x512x1, .bf16⟩
  | .hbm, ⟨15, _⟩ => ⟨S3x512x6144, .bf16⟩
  | .hbm, ⟨16, _⟩ => ⟨S3x512x6144, .bf16⟩
  | .hbm, ⟨17, _⟩ => ⟨S2048x6144, .f32⟩
  | .hbm, ⟨18, _⟩ => ⟨S2048x6144, .f32⟩
  | .hbm, ⟨19, _⟩ => ⟨S2048x6144, .f32⟩
  | .hbm, ⟨20, _⟩ => ⟨S2048x6144, .f32⟩
  | .hbm, ⟨21, _⟩ => ⟨S2048x6144, .f32⟩
  | .hbm, ⟨22, _⟩ => ⟨S2048x6144, .f32⟩
  | .hbm, ⟨23, _⟩ => ⟨S2048x6144, .f32⟩
  | .hbm, ⟨24, _⟩ => ⟨S_, .f32⟩
  | .hbm, ⟨25, _⟩ => ⟨S_, .f32⟩
  | .hbm, ⟨26, _⟩ => ⟨S2048x6144, .f32⟩
  | .hbm, ⟨27, _⟩ => ⟨S2048x6144, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x6144, .f32⟩
  | .hbm, ⟨33, _⟩ => ⟨S2048x6144, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x6144, .f32⟩
  | .hbm, ⟨41, _⟩ => ⟨S2048x6144, .f32⟩
  | .hbm, ⟨42, _⟩ => ⟨S2048x6144, .f32⟩
  | .hbm, ⟨43, _⟩ => ⟨S2048x6144, .f32⟩
  | .hbm, ⟨44, _⟩ => ⟨S2048x6144, .f32⟩
  | .hbm, ⟨45, _⟩ => ⟨S2048x6144, .bf16⟩
  | .hbm, ⟨46, _⟩ => ⟨S3x512x2048, .f32⟩
  | .hbm, ⟨47, _⟩ => ⟨S3x512x1, .f32⟩
  | .hbm, ⟨48, _⟩ => ⟨S3x512x2048, .f32⟩
  | .hbm, ⟨49, _⟩ => ⟨S3x512x2048, .f32⟩
  | .hbm, ⟨50, _⟩ => ⟨S3x512x2048, .bf16⟩
  | .local _ .vmem, ⟨0, _⟩ => ⟨S3x512x6144, .fp8e5m2⟩
  | .local _ .vmem, ⟨1, _⟩ => ⟨S3x512x6144, .bf16⟩
  | _, _ => ⟨S3x512x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_call3_v0 : Ref sig .tc := ⟨.hbm, 31, rfl⟩
abbrev main_call3_v1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_v23 : Ref sig .tc := ⟨.hbm, 42, rfl⟩
abbrev main_call5_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x512x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pure.lean ====
/- What each pure value of the kernel body is, read at one element over the extended reals. There a cast between
   float types changes nothing, `0 - a` is `-a`, and a contraction is a finite sum. -/
module

public import proofs.«01_k».proof.Proof.Gen.KernelIdeal.Skeleton
public import Idealize.ShloMosaic.Lib.Pointwise

@[expose] public section

set_option maxRecDepth 16384

noncomputable section

namespace Cert.Proof.Pure

open Idealize.ShloMosaic Idealize.ShloMosaic.TcCoe Idealize.SL.Sem
open Cert.KernelIdeal Cert.KernelIdeal.Gen

/-- One entry of the weight gradient: the full gradient `g` scaled by `p` where the weight is above the threshold
    `δ`, by `n` where it is below `-δ`, and kept elsewhere. -/
def dwS (δ p n w g : EReal) : EReal := if δ < w then p * g else if w < -δ then n * g else g

/-- One entry of the ternary weight: `p` above the threshold, `-n` below its negative, `0` between. -/
def wtS (δ p n w : EReal) : EReal := if δ < w then p else if w < -δ then -n else 0

/-- The full gradient where the weight is above the threshold, `0` elsewhere. -/
def gpS (δ w g : EReal) : EReal := if δ < w then g else 0

/-- The full gradient where the weight is below the negated threshold, `0` elsewhere. -/
def gnS (δ w g : EReal) : EReal := if w < -δ then g else 0

/-- The full gradient of one block: the transposed activations against the codes times their row's scale. -/
theorem pay14_at (q : Vec Ideal S1536x512 .fp8e5m2) (s : Vec Ideal S1536x1 .f32) (xt : Vec Ideal S2048x1536 .bf16) (d : Fin 2048) (f : Fin 512) :
    k0_pay14 (F := Ideal) q s xt (ix2 d f) = ∑ t : Fin 1536, xt (ix2 d t) * (q (ix2 t f) * s (ix2 t 0)) := by
  pointwise [k0_pay14, k0_pay11]

/-- The activations, transposed. -/
theorem pay7_at (x : Vec Ideal S1536x2048 .bf16) (d : Fin 2048) (t : Fin 1536) :
    k0_pay7 (F := Ideal) x (ix2 d t) = x (ix2 t d) := by
  pointwise [k0_pay7]

/-- The zero fill of the accumulator. -/
theorem pay8_at (j : S1536x2048.Idx) : k0_pay8 (F := Ideal) j = 0 := by
  pointwise [k0_pay8]

/-- The zero fill of the positive partial sums. -/
theorem pay9_at (j : S8x512.Idx) : k0_pay9 (F := Ideal) j = 0 := by
  pointwise [k0_pay9]

/-- The zero fill of the negative partial sums. -/
theorem pay10_at (j : S8x512.Idx) : k0_pay10 (F := Ideal) j = 0 := by
  pointwise [k0_pay10]

/-- The block of the weight gradient. -/
theorem pay15_at (δ p n : Elt Ideal .f32) (q : Vec Ideal S1536x512 .fp8e5m2) (s : Vec Ideal S1536x1 .f32)
    (w : Vec Ideal S2048x512 .f32) (xt : Vec Ideal S2048x1536 .bf16) (d : Fin 2048) (f : Fin 512) :
    k0_pay15 (F := Ideal) δ p n q s w xt (ix2 d f)
      = dwS δ p n (w (ix2 d f)) (∑ t : Fin 1536, xt (ix2 d t) * (q (ix2 t f) * s (ix2 t 0))) := by
  rw [← pay14_at]
  pointwise [k0_pay15, k0_pay12, k0_pay13, dwS, zero_sub]

/-- The accumulator after one more block: the codes against the ternary weights of the block are added. -/
theorem pay3_at (δ p n : Elt Ideal .f32) (q : Vec Ideal S1536x512 .fp8e5m2)
    (w : Vec Ideal S2048x512 .f32) (acc : Vec Ideal S1536x2048 .f32) (t : Fin 1536) (d : Fin 2048)  :
    k0_pay3 (F := Ideal) p n (k0_pay11 q) (k0_pay12 δ w) (k0_pay13 δ w) acc (ix2 t d)
      = acc (ix2 t d) + ∑ f : Fin 512, q (ix2 t f) * wtS δ p n (w (ix2 d f)) := by
  pointwise [k0_pay3, k0_pay11, k0_pay12, k0_pay13, wtS, zero_sub]

/-- The positive partial sums after one more block: row `r` gains the rows `8 a + r` of the masked gradient. -/
theorem pay1_at (δ  : Elt Ideal .f32) (q : Vec Ideal S1536x512 .fp8e5m2) (s : Vec Ideal S1536x1 .f32)
    (w : Vec Ideal S2048x512 .f32) (xt : Vec Ideal S2048x1536 .bf16) (sp : Vec Ideal S8x512 .f32) (r : Fin 8) (f : Fin 512) :
    k0_pay1 (F := Ideal) sp (k0_pay17 δ q s w xt) (ix2 r f)
      = sp (ix2 r f) + ∑ a : Fin 256, gpS δ (w (ix2 ⟨a * 8 + r, by omega⟩ f)) (k0_pay14 (F := Ideal) q s xt (ix2 ⟨a * 8 + r, by omega⟩ f)) := by
  pointwise [k0_pay1, k0_pay17, k0_pay12, gpS]

/-- The negative partial sums after one more block. -/
theorem pay2_at (δ  : Elt Ideal .f32) (q : Vec Ideal S1536x512 .fp8e5m2) (s : Vec Ideal S1536x1 .f32)
    (w : Vec Ideal S2048x512 .f32) (xt : Vec Ideal S2048x1536 .bf16) (sn : Vec Ideal S8x512 .f32) (r : Fin 8) (f : Fin 512) :
    k0_pay2 (F := Ideal) (k0_pay16 δ q s w xt) sn (ix2 r f)
      = sn (ix2 r f) + ∑ a : Fin 256, gnS δ (w (ix2 ⟨a * 8 + r, by omega⟩ f)) (k0_pay14 (F := Ideal) q s xt (ix2 ⟨a * 8 + r, by omega⟩ f)) := by
  pointwise [k0_pay2, k0_pay16, k0_pay13, gnS, zero_sub]

/-- The input gradient: the accumulator, every row times its scale. -/
theorem pay4_at (s : Vec Ideal S1536x1 .f32) (acc : Vec Ideal S1536x2048 .f32) (t : Fin 1536) (d : Fin 2048) :
    k0_pay4 (F := Ideal) s acc (ix2 t d) = s (ix2 t 0) * acc (ix2 t d) := by
  pointwise [k0_pay4]

/-- The gradient of the positive scale: all positive partial sums together. -/
theorem pay5_at (sp : Vec Ideal S8x512 .f32) :
    k0_pay5 (F := Ideal) sp = ∑ r : Fin 8, ∑ f : Fin 512, sp (ix2 r f) := by
  pointwise [k0_pay5]

/-- The gradient of the negative scale: minus all negative partial sums together. -/
theorem pay6_at (sn : Vec Ideal S8x512 .f32) :
    k0_pay6 (F := Ideal) sn = -∑ r : Fin 8, ∑ f : Fin 512, sn (ix2 r f) := by
  pointwise [k0_pay6, zero_sub]

end Cert.Proof.Pure
-- ==== Proof.Blocks.lean ====
/- The blocks the kernel body reads at a grid point, as entries of the arguments. -/
module

public import proofs.«01_k».proof.Proof.Gen.KernelIdeal.Frame
public import proofs.«01_k».proof.Proof.Pure
public import Idealize.ShloMosaic.Lib.Pipeline.ValueKit
public import Idealize.ShloMosaic.Lib.Claim

@[expose] public section

set_option maxRecDepth 16384

noncomputable section

namespace Cert.Proof.Blocks

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The activation of token `a` (of the `3 * 512` tokens in a row) at input feature `d`. -/
def X (a : Fin 1536) (d : Fin 2048) : EReal :=
  (m ((c : Thread nD τ).loc main_arg0) : Vec Ideal S3x512x2048 .bf16) (ix3 ⟨a / 512, by omega⟩ ⟨a % 512, by omega⟩ d)

/-- The gradient code of token `a` at output feature `f`. -/
def Q (a : Fin 1536) (f : Fin 6144) : EReal :=
  (m ((c : Thread nD τ).loc main_arg1) : Vec Ideal S3x512x6144 .fp8e5m2) (ix3 ⟨a / 512, by omega⟩ ⟨a % 512, by omega⟩ f)

/-- The scale of token `a`. -/
def S (a : Fin 1536) : EReal :=
  (m ((c : Thread nD τ).loc main_arg2) : Vec Ideal S3x512 .f32) (ix2 ⟨a / 512, by omega⟩ ⟨a % 512, by omega⟩)

/-- The weight at input feature `d`, output feature `f`. -/
def W (d : Fin 2048) (f : Fin 6144) : EReal :=
  (m ((c : Thread nD τ).loc main_arg3) : Vec Ideal S2048x6144 .f32) (ix2 d f)

/-- The threshold. -/
def δ : EReal := (m ((c : Thread nD τ).loc main_arg4) : Vec Ideal S_ .f32) ix0

/-- The positive scale. -/
def αp : EReal := (m ((c : Thread nD τ).loc main_arg5) : Vec Ideal S_ .f32) ix0

/-- The negative scale. -/
def αn : EReal := (m ((c : Thread nD τ).loc main_arg6) : Vec Ideal S_ .f32) ix0

/-- Which block of its array each window holds at grid point `t`: block column `t` of the codes and of the weights, all of
    the other arrays. -/
theorem idx : ∀ t : Fin cfg0.N, win0_0.index t = ![0] ∧ win0_1.index t = ![0] ∧ win0_2.index t = ![0] ∧ win0_3.index t = ![0, 0]
    ∧ win0_4.index t = ![0, t.val] ∧ win0_5.index t = ![0, 0] ∧ win0_6.index t = ![0, t.val] :=
  (by decide +kernel : ∀ t : Fin grid0.N, _)

/-- The threshold enters the region as one word. -/
theorem V_v0 : V m c main_v0 = shapeCast S1 (m ((c : Thread nD τ).loc main_arg4) : Vec Ideal S_ .f32) shapeCasts_S_S1 := by
  unfold V V0
  simp only [List.flatten_cons, List.flatten_nil, List.append_nil]
  unfold hostOps0
  after_results
  rfl

/-- The positive scale enters the region as one word. -/
theorem V_v1 : V m c main_v1 = shapeCast S1 (m ((c : Thread nD τ).loc main_arg5) : Vec Ideal S_ .f32) shapeCasts_S_S1 := by
  unfold V V0
  simp only [List.flatten_cons, List.flatten_nil, List.append_nil]
  unfold hostOps0
  after_results
  rfl

/-- The negative scale enters the region as one word. -/
theorem V_v2 : V m c main_v2 = shapeCast S1 (m ((c : Thread nD τ).loc main_arg6) : Vec Ideal S_ .f32) shapeCasts_S_S1 := by
  unfold V V0
  simp only [List.flatten_cons, List.flatten_nil, List.append_nil]
  unfold hostOps0
  after_results
  rfl

/-- The activations enter the region with the tokens in one row. -/
theorem V_v3 : V m c main_v3 = shapeCast S1536x2048 (m ((c : Thread nD τ).loc main_arg0) : Vec Ideal S3x512x2048 .bf16) shapeCasts_S3x512x2048_S1536x2048 := by
  unfold V V0
  simp only [List.flatten_cons, List.flatten_nil, List.append_nil]
  unfold hostOps0
  after_results
  rfl

/-- The codes enter the region with the tokens in one row. -/
theorem V_v4 : V m c main_v4 = shapeCast S1536x6144 (m ((c : Thread nD τ).loc main_arg1) : Vec Ideal S3x512x6144 .fp8e5m2) shapeCasts_S3x512x6144_S1536x6144 := by
  unfold V V0
  simp only [List.flatten_cons, List.flatten_nil, List.append_nil]
  unfold hostOps0
  after_results
  rfl

/-- The scales enter the region as one column. -/
theorem V_v5 : V m c main_v5 = shapeCast S1536x1 (m ((c : Thread nD τ).loc main_arg2) : Vec Ideal S3x512 .f32) shapeCasts_S3x512_S1536x1 := by
  unfold V V0
  simp only [List.flatten_cons, List.flatten_nil, List.append_nil]
  unfold hostOps0
  after_results
  rfl

/-- Merging the two token axes of the activations. -/
theorem flat3 (v : Vec Ideal S3x512x2048 .bf16) (a : Fin 1536) (d : Fin 2048) :
    shapeCast S1536x2048 v shapeCasts_S3x512x2048_S1536x2048 (ix2 a d) = v (ix3 ⟨a / 512, by omega⟩ ⟨a % 512, by omega⟩ d) := by
  pointwise

/-- One entry of the activations as the region finds them. -/
theorem V_v3_at (a : Fin 1536) (d : Fin 2048) : (V m c main_v3 : Vec Ideal S1536x2048 .bf16) (ix2 a d) = X m c a d := by
  rw [V_v3]
  exact flat3 _ a d

/-- Merging the two token axes of the codes. -/
theorem flat4 (v : Vec Ideal S3x512x6144 .fp8e5m2) (a : Fin 1536) (f : Fin 6144) :
    shapeCast S1536x6144 v shapeCasts_S3x512x6144_S1536x6144 (ix2 a f) = v (ix3 ⟨a / 512, by omega⟩ ⟨a % 512, by omega⟩ f) := by
  pointwise

/-- Merging the two token axes of the scales into one column. -/
theorem flat5 (v : Vec Ideal S3x512 .f32) (a : Fin 1536)  :
    shapeCast S1536x1 v shapeCasts_S3x512_S1536x1 (ix2 a 0) = v (ix2 ⟨a / 512, by omega⟩ ⟨a % 512, by omega⟩) := by
  pointwise

/-- One code as the region finds it. -/
theorem V_v4_at (a : Fin 1536) (f : Fin 6144) : (V m c main_v4 : Vec Ideal S1536x6144 .fp8e5m2) (ix2 a f) = Q m c a f := by
  rw [V_v4]
  exact flat4 _ a f

/-- One scale as the region finds it. -/
theorem V_v5_at (a : Fin 1536) : (V m c main_v5 : Vec Ideal S1536x1 .f32) (ix2 a 0) = S m c a := by
  rw [V_v5]
  exact flat5 _ a

/-- The output feature of lane `f` of the block at grid point `t`. -/
def feat (t : Fin cfg0.N) (f : Fin 512) : Fin 6144 :=
  ⟨t.val * 512 + f.val, by have := lt_of_lt_of_eq t.isLt N_0; omega⟩

/-- The staged threshold. -/
theorem blk0 (t : Fin cfg0.N) : (iblk m c 0 t : Vec Ideal S1 .f32) (ix1 0) = δ m c := by
  show V m c main_v0 (((cfg0.win 0).blk t).view.emb (ix1 0)) = _
  have h : (((cfg0.win 0).blk t).view.emb (ix1 0) : S1.Idx) = ix1 0 := by
    blk_ext [idx t, feat]
  rw [h, V_v0]
  pointwise [δ]

/-- The staged positive scale. -/
theorem blk1 (t : Fin cfg0.N) : (iblk m c 1 t : Vec Ideal S1 .f32) (ix1 0) = αp m c := by
  show V m c main_v1 (((cfg0.win 1).blk t).view.emb (ix1 0)) = _
  have h : (((cfg0.win 1).blk t).view.emb (ix1 0) : S1.Idx) = ix1 0 := by
    blk_ext [idx t, feat]
  rw [h, V_v1]
  pointwise [αp]

/-- The staged negative scale. -/
theorem blk2 (t : Fin cfg0.N) : (iblk m c 2 t : Vec Ideal S1 .f32) (ix1 0) = αn m c := by
  show V m c main_v2 (((cfg0.win 2).blk t).view.emb (ix1 0)) = _
  have h : (((cfg0.win 2).blk t).view.emb (ix1 0) : S1.Idx) = ix1 0 := by
    blk_ext [idx t, feat]
  rw [h, V_v2]
  pointwise [αn]

/-- The staged activations. -/
theorem blk3 (t : Fin cfg0.N) (a : Fin 1536) (d : Fin 2048) :
    (iblk m c 3 t : Vec Ideal S1536x2048 .bf16) (ix2 a d) = X m c a d := by
  show V m c main_v3 (((cfg0.win 3).blk t).view.emb (ix2 a d)) = _
  have h : (((cfg0.win 3).blk t).view.emb (ix2 a d) : S1536x2048.Idx) = ix2 a d := by
    blk_ext [idx t, feat]
  exact (congrArg (V m c main_v3) h).trans (V_v3_at m c a d)

/-- The staged block of codes. -/
theorem blk4 (t : Fin cfg0.N) (a : Fin 1536) (f : Fin 512) :
    (iblk m c 4 t : Vec Ideal S1536x512 .fp8e5m2) (ix2 a f) = Q m c a (feat t f) := by
  show V m c main_v4 (((cfg0.win 4).blk t).view.emb (ix2 a f)) = _
  have h : (((cfg0.win 4).blk t).view.emb (ix2 a f) : S1536x6144.Idx) = ix2 a (feat t f) := by
    blk_ext [idx t, feat]
  exact (congrArg (V m c main_v4) h).trans (V_v4_at m c a (feat t f))

/-- The staged scales. -/
theorem blk5 (t : Fin cfg0.N) (a : Fin 1536) :
    (iblk m c 5 t : Vec Ideal S1536x1 .f32) (ix2 a 0) = S m c a := by
  show V m c main_v5 (((cfg0.win 5).blk t).view.emb (ix2 a 0)) = _
  have h : (((cfg0.win 5).blk t).view.emb (ix2 a 0) : S1536x1.Idx) = ix2 a 0 := by
    blk_ext [idx t, feat]
  exact (congrArg (V m c main_v5) h).trans (V_v5_at m c a)

/-- The staged block of weights. -/
theorem blk6 (t : Fin cfg0.N) (d : Fin 2048) (f : Fin 512) :
    (iblk m c 6 t : Vec Ideal S2048x512 .f32) (ix2 d f) = W m c d (feat t f) := by
  unfold W feat
  blk_point [iblk, V, idx t]

end Cert.Proof.Blocks
-- ==== Proof.Step.lean ====
/- What the kernel body leaves in its outputs and scratch at one grid point, over what the point before left. -/
module

public import proofs.«01_k».proof.Proof.Gen.KernelIdeal.Frame
public import proofs.«01_k».proof.Proof.Blocks
public import Idealize.ShloMosaic.Lib.Pipeline.ValueKit
public import Idealize.ShloMosaic.Lib.Pipeline.ReadBack

@[expose] public section

set_option maxRecDepth 16384

noncomputable section

namespace Cert.Proof.Step

open Idealize.ShloMosaic Idealize.ShloMosaic.TcCoe Idealize.SL.Sem
open Idealize.ShloMosaic.Pipeline (Dat)
open Cert.KernelIdeal Cert.KernelIdeal.Gen Cert.Proof.Pure Cert.Proof.Blocks

variable (m : (ℓ : Loc nD τ sig) → Buf (Elt Ideal) ℓ) (c : Dev nD)

/-- The full gradient at input feature `d`, output feature `f`: over all tokens, the activation times the scaled code. -/
def G (d : Fin 2048) (f : Fin 6144) : EReal := ∑ a : Fin 1536, X m c a d * (Q m c a f * S m c a)

/-- The first point keeps the transposed activations. -/
theorem xt_A (t : Fin cfg0.N) (h0 : t.val % 12 = 0) (h1 : ¬t.val % 12 = 11) (d : Fin 2048) (a : Fin 1536) :
    (outsAt0 m c t.val t.isLt).2.2.2.2.2.1 (ix2 d a) = X m c a d := by
  rw [outsAt0_A m c t h0 h1]
  frame_out
  rw [pay7_at]
  exact blk3 m c t a d

/-- A middle point leaves the transposed activations as they were. -/
theorem xt_B (t : Fin cfg0.N) (h0 : ¬t.val % 12 = 0) (h1 : ¬t.val % 12 = 11)  :
    (outsAt0 m c t.val t.isLt).2.2.2.2.2.1 = (outsAt0 m c (t.val - 1) (Nat.lt_of_le_of_lt (Nat.sub_le _ _) t.isLt)).2.2.2.2.2.1 := by
  rw [outsAt0_B m c t h0 h1]
  rfl

/-- A last point leaves the transposed activations as they were. -/
theorem xt_C (t : Fin cfg0.N) (h0 : ¬t.val % 12 = 0) (h1 : t.val % 12 = 11)  :
    (outsAt0 m c t.val t.isLt).2.2.2.2.2.1 = (outsAt0 m c (t.val - 1) (Nat.lt_of_le_of_lt (Nat.sub_le _ _) t.isLt)).2.2.2.2.2.1 := by
  rw [outsAt0_C m c t h0 h1]
  rfl

/-- After every point the scratch holds the transposed activations. -/
theorem xt_all (n : ℕ) (hn : n < cfg0.N) (d : Fin 2048) (a : Fin 1536) : (outsAt0 m c n hn).2.2.2.2.2.1 (ix2 d a) = X m c a d := by
  induction n with
  | zero => exact xt_A m c ⟨0, hn⟩ (Nat.zero_mod 12) (show ¬0 % 12 = 11 by decide) d a
  | succ n ih =>
    have h0 : ¬(n + 1) % 12 = 0 := by have := lt_of_lt_of_eq hn N_0; omega
    by_cases h1 : (n + 1) % 12 = 11
    · exact (congrFun (xt_C m c ⟨n + 1, hn⟩ h0 h1) (ix2 d a)).trans (ih _)
    · exact (congrFun (xt_B m c ⟨n + 1, hn⟩ h0 h1) (ix2 d a)).trans (ih _)

/-- The full gradient of the block, from the transposed activations the scratch holds. -/
theorem grad_kept (t : Fin cfg0.N) (n : ℕ) (hn : n < cfg0.N) (d : Fin 2048) (f : Fin 512) :
    k0_pay14 (F := Ideal) (iblk m c 4 t) (iblk m c 5 t) (outsAt0 m c n hn).2.2.2.2.2.1 (ix2 d f) = G m c d (feat t f) := by
  rw [pay14_at]
  simp only [xt_all, blk4, blk5, G]

/-- The full gradient of the block, from the activations transposed at the same point. -/
theorem grad_first (t : Fin cfg0.N) (d : Fin 2048) (f : Fin 512) :
    k0_pay14 (F := Ideal) (iblk m c 4 t) (iblk m c 5 t) (k0_pay7 (iblk m c 3 t)) (ix2 d f) = G m c d (feat t f) := by
  rw [pay14_at]
  simp only [pay7_at, blk3, blk4, blk5, G]

/-- The first point leaves its own contribution in the accumulator. -/
theorem acc_A (t : Fin cfg0.N) (h0 : t.val % 12 = 0) (h1 : ¬t.val % 12 = 11) (a : Fin 1536) (d : Fin 2048) :
    (outsAt0 m c t.val t.isLt).2.2.2.2.1 (ix2 a d) = ∑ f : Fin 512, Q m c a (feat t f) * wtS (δ m c) (αp m c) (αn m c) (W m c d (feat t f)) := by
  rw [outsAt0_A m c t h0 h1]
  frame_out
  rw [pay3_at, pay8_at]
  pointwise
  simp only [blk0, blk1, blk2, blk4, blk6]

/-- A middle point adds its contribution to the accumulator. -/
theorem acc_B (t : Fin cfg0.N) (h0 : ¬t.val % 12 = 0) (h1 : ¬t.val % 12 = 11) (a : Fin 1536) (d : Fin 2048) :
    (outsAt0 m c t.val t.isLt).2.2.2.2.1 (ix2 a d) = (outsAt0 m c (t.val - 1) (Nat.lt_of_le_of_lt (Nat.sub_le _ _) t.isLt)).2.2.2.2.1 (ix2 a d) + ∑ f : Fin 512, Q m c a (feat t f) * wtS (δ m c) (αp m c) (αn m c) (W m c d (feat t f)) := by
  rw [outsAt0_B m c t h0 h1]
  frame_out
  rw [pay3_at, read_unread_whole]
  pointwise
  simp only [blk0, blk1, blk2, blk4, blk6]

/-- A last point adds its contribution to the accumulator. -/
theorem acc_C (t : Fin cfg0.N) (h0 : ¬t.val % 12 = 0) (h1 : t.val % 12 = 11) (a : Fin 1536) (d : Fin 2048) :
    (outsAt0 m c t.val t.isLt).2.2.2.2.1 (ix2 a d) = (outsAt0 m c (t.val - 1) (Nat.lt_of_le_of_lt (Nat.sub_le _ _) t.isLt)).2.2.2.2.1 (ix2 a d) + ∑ f : Fin 512, Q m c a (feat t f) * wtS (δ m c) (αp m c) (αn m c) (W m c d (feat t f)) := by
  rw [outsAt0_C m c t h0 h1]
  frame_out
  rw [pay3_at, read_unread_whole]
  pointwise
  simp only [blk0, blk1, blk2, blk4, blk6]

/-- The first point leaves its own positive partial sums. -/
theorem sp_A (t : Fin cfg0.N) (h0 : t.val % 12 = 0) (h1 : ¬t.val % 12 = 11) (r : Fin 8) (f : Fin 512) :
    (outsAt0 m c t.val t.isLt).2.2.2.2.2.2.1 (ix2 r f) = ∑ a : Fin 256, gpS (δ m c) (W m c ⟨a * 8 + r, by omega⟩ (feat t f)) (G m c ⟨a * 8 + r, by omega⟩ (feat t f)) := by
  rw [outsAt0_A m c t h0 h1]
  frame_out
  rw [pay1_at, pay9_at]
  pointwise
  simp only [grad_first, blk0, blk6]

/-- A middle point adds its positive partial sums. -/
theorem sp_B (t : Fin cfg0.N) (h0 : ¬t.val % 12 = 0) (h1 : ¬t.val % 12 = 11) (r : Fin 8) (f : Fin 512) :
    (outsAt0 m c t.val t.isLt).2.2.2.2.2.2.1 (ix2 r f) = (outsAt0 m c (t.val - 1) (Nat.lt_of_le_of_lt (Nat.sub_le _ _) t.isLt)).2.2.2.2.2.2.1 (ix2 r f) + ∑ a : Fin 256, gpS (δ m c) (W m c ⟨a * 8 + r, by omega⟩ (feat t f)) (G m c ⟨a * 8 + r, by omega⟩ (feat t f)) := by
  rw [outsAt0_B m c t h0 h1]
  frame_out
  rw [pay1_at, read_unread_whole, read_unread_whole]
  pointwise
  simp only [grad_kept, blk0, blk6]

/-- A last point adds its positive partial sums. -/
theorem sp_C (t : Fin cfg0.N) (h0 : ¬t.val % 12 = 0) (h1 : t.val % 12 = 11) (r : Fin 8) (f : Fin 512) :
    (outsAt0 m c t.val t.isLt).2.2.2.2.2.2.1 (ix2 r f) = (outsAt0 m c (t.val - 1) (Nat.lt_of_le_of_lt (Nat.sub_le _ _) t.isLt)).2.2.2.2.2.2.1 (ix2 r f) + ∑ a : Fin 256, gpS (δ m c) (W m c ⟨a * 8 + r, by omega⟩ (feat t f)) (G m c ⟨a * 8 + r, by omega⟩ (feat t f)) := by
  rw [outsAt0_C m c t h0 h1]
  frame_out
  rw [pay1_at, read_unread_whole, read_unread_whole]
  pointwise
  simp only [grad_kept, blk0, blk6]

/-- The first point leaves its own negative partial sums. -/
theorem sn_A (t : Fin cfg0.N) (h0 : t.val % 12 = 0) (h1 : ¬t.val % 12 = 11) (r : Fin 8) (f : Fin 512) :
    (outsAt0 m c t.val t.isLt).2.2.2.2.2.2.2 (ix2 r f) = ∑ a : Fin 256, gnS (δ m c) (W m c ⟨a * 8 + r, by omega⟩ (feat t f)) (G m c ⟨a * 8 + r, by omega⟩ (feat t f)) := by
  rw [outsAt0_A m c t h0 h1]
  frame_out
  rw [pay2_at, pay10_at]
  pointwise
  simp only [grad_first, blk0, blk6]

/-- A middle point adds its negative partial sums. -/
theorem sn_B (t : Fin cfg0.N) (h0 : ¬t.val % 12 = 0) (h1 : ¬t.val % 12 = 11) (r : Fin 8) (f : Fin 512) :
    (outsAt0 m c t.val t.isLt).2.2.2.2.2.2.2 (ix2 r f) = (outsAt0 m c (t.val - 1) (Nat.lt_of_le_of_lt (Nat.sub_le _ _) t.isLt)).2.2.2.2.2.2.2 (ix2 r f) + ∑ a : Fin 256, gnS (δ m c) (W m c ⟨a * 8 + r, by omega⟩ (feat t f)) (G m c ⟨a * 8 + r, by omega⟩ (feat t f)) := by
  rw [outsAt0_B m c t h0 h1]
  frame_out
  rw [pay2_at, read_unread_whole, read_unread_whole]
  pointwise
  simp only [grad_kept, blk0, blk6]

/-- A last point adds its negative partial sums. -/
theorem sn_C (t : Fin cfg0.N) (h0 : ¬t.val % 12 = 0) (h1 : t.val % 12 = 11) (r : Fin 8) (f : Fin 512) :
    (outsAt0 m c t.val t.isLt).2.2.2.2.2.2.2 (ix2 r f) = (outsAt0 m c (t.val - 1) (Nat.lt_of_le_of_lt (Nat.sub_le _ _) t.isLt)).2.2.2.2.2.2.2 (ix2 r f) + ∑ a : Fin 256, gnS (δ m c) (W m c ⟨a * 8 + r, by omega⟩ (feat t f)) (G m c ⟨a * 8 + r, by omega⟩ (feat t f)) := by
  rw [outsAt0_C m c t h0 h1]
  frame_out
  rw [pay2_at, read_unread_whole, read_unread_whole]
  pointwise
  simp only [grad_kept, blk0, blk6]

/-- The first point writes its block of the weight gradient. -/
theorem dw_A (t : Fin cfg0.N) (h0 : t.val % 12 = 0) (h1 : ¬t.val % 12 = 11) (d : Fin 2048) (f : Fin 512) :
    (outsAt0 m c t.val t.isLt).2.1 (ix2 d f) = dwS (δ m c) (αp m c) (αn m c) (W m c d (feat t f)) (G m c d (feat t f)) := by
  rw [outsAt0_A m c t h0 h1]
  frame_out
  rw [pay15_at, ← pay14_at, grad_first]
  pointwise
  simp only [blk0, blk1, blk2, blk6]

/-- A middle point writes its block of the weight gradient. -/
theorem dw_B (t : Fin cfg0.N) (h0 : ¬t.val % 12 = 0) (h1 : ¬t.val % 12 = 11) (d : Fin 2048) (f : Fin 512) :
    (outsAt0 m c t.val t.isLt).2.1 (ix2 d f) = dwS (δ m c) (αp m c) (αn m c) (W m c d (feat t f)) (G m c d (feat t f)) := by
  rw [outsAt0_B m c t h0 h1]
  frame_out
  rw [pay15_at, ← pay14_at, read_unread_whole, grad_kept]
  pointwise
  simp only [blk0, blk1, blk2, blk6]

/-- A last point writes its block of the weight gradient. -/
theorem dw_C (t : Fin cfg0.N) (h0 : ¬t.val % 12 = 0) (h1 : t.val % 12 = 11) (d : Fin 2048) (f : Fin 512) :
    (outsAt0 m c t.val t.isLt).2.1 (ix2 d f) = dwS (δ m c) (αp m c) (αn m c) (W m c d (feat t f)) (G m c d (feat t f)) := by
  rw [outsAt0_C m c t h0 h1]
  frame_out
  rw [pay15_at, ← pay14_at, read_unread_whole, grad_kept]
  pointwise
  simp only [blk0, blk1, blk2, blk6]

/-- The last point writes the input gradient: the accumulator it leaves, every row times its scale. -/
theorem dx_C (t : Fin cfg0.N) (h0 : ¬t.val % 12 = 0) (h1 : t.val % 12 = 11) (a : Fin 1536) (d : Fin 2048) :
    (outsAt0 m c t.val t.isLt).1 (ix2 a d) = S m c a * (outsAt0 m c t.val t.isLt).2.2.2.2.1 (ix2 a d) := by
  rw [outsAt0_C m c t h0 h1]
  frame_out
  rw [pay4_at, blk5]

/-- The last point writes the sum of the positive partial sums it leaves. -/
theorem dwp_C (t : Fin cfg0.N) (h0 : ¬t.val % 12 = 0) (h1 : t.val % 12 = 11) (j : S1.Idx) :
    (outsAt0 m c t.val t.isLt).2.2.1 j = ∑ r : Fin 8, ∑ f : Fin 512, (outsAt0 m c t.val t.isLt).2.2.2.2.2.2.1 (ix2 r f) := by
  rw [outsAt0_C m c t h0 h1]
  frame_out
  rw [pay5_at]

/-- The last point writes minus the sum of the negative partial sums it leaves. -/
theorem dwn_C (t : Fin cfg0.N) (h0 : ¬t.val % 12 = 0) (h1 : t.val % 12 = 11) (j : S1.Idx) :
    (outsAt0 m c t.val t.isLt).2.2.2.1 j = -∑ r : Fin 8, ∑ f : Fin 512, (outsAt0 m c t.val t.isLt).2.2.2.2.2.2.2 (ix2 r f) := by
  rw [outsAt0_C m c t h0 h1]
  frame_out
  rw [pay6_at]

end Cert.Proof.Step
-- ==== Proof.Final.lean ====
/- What the kernel's four result arrays hold after the last grid point, as sums over the arguments' entries. -/
module

public import proofs.«01_k».proof.Proof.Step
public import Idealize.ShloMosaic.Lib.Pipeline.ValueKit

@[expose] public section

set_option maxRecDepth 16384

noncomputable section

namespace Cert.Proof.Final

open Idealize.ShloMosaic Idealize.ShloMosaic.TcCoe Idealize.SL.Sem
open Idealize.ShloMosaic.Pipeline (Dat)
open Cert.KernelIdeal Cert.KernelIdeal.Gen Cert.Proof.Pure Cert.Proof.Blocks Cert.Proof.Step

variable (m : (ℓ : Loc nD τ sig) → Buf (Elt Ideal) ℓ) (c : Dev nD)

/-- One entry of the input gradient: the token's scale times its codes against the ternary weights. -/
def DX (a : Fin 1536) (d : Fin 2048) : EReal :=
  S m c a * ∑ f : Fin 6144, Q m c a f * wtS (δ m c) (αp m c) (αn m c) (W m c d f)

/-- One entry of the weight gradient. -/
def DW (d : Fin 2048) (f : Fin 6144) : EReal := dwS (δ m c) (αp m c) (αn m c) (W m c d f) (G m c d f)

/-- The gradient of the positive scale. -/
def DWP : EReal := ∑ d : Fin 2048, ∑ f : Fin 6144, gpS (δ m c) (W m c d f) (G m c d f)

/-- The gradient of the negative scale. -/
def DWN : EReal := -∑ d : Fin 2048, ∑ f : Fin 6144, gnS (δ m c) (W m c d f) (G m c d f)

/-- Summing over the grid points and the lanes of a block is summing over all output features. -/
theorem sum_feat (g : Fin 6144 → EReal) : ∑ t : Fin cfg0.N, ∑ f : Fin 512, g (feat t f) = ∑ f : Fin 6144, g f :=
  Fin.sum_mul_add_fin cfg0.N 512 g

/-- Summing first into eight rows, over the grid points and then over rows and lanes, is summing over all entries. -/
theorem sum_rows (g : Fin 2048 → Fin 6144 → EReal) :
    ∑ r : Fin 8, ∑ f : Fin 512, ∑ t : Fin cfg0.N, ∑ a : Fin 256, g ⟨a * 8 + r, by omega⟩ (feat t f)
      = ∑ d : Fin 2048, ∑ f : Fin 6144, g d f := by
  have h : ∀ r : Fin 8, ∑ f : Fin 512, ∑ t : Fin cfg0.N, ∑ a : Fin 256, g ⟨a * 8 + r, by omega⟩ (feat t f)
      = ∑ a : Fin 256, ∑ f : Fin 6144, g ⟨a * 8 + r, by omega⟩ f := fun r => by
    rw [Finset.sum_comm]
    rw [Finset.sum_congr rfl fun t _ => Finset.sum_comm]
    rw [Finset.sum_comm]
    exact Finset.sum_congr rfl fun a _ => sum_feat _
  rw [Finset.sum_congr rfl fun r _ => h r, Finset.sum_comm]
  exact Fin.sum_mul_add_fin 256 8 (fun d => ∑ f : Fin 6144, g d f) rfl

/-- The last point leaves in the accumulator the codes against all ternary weights. -/
theorem acc_end (a : Fin 1536) (d : Fin 2048) :
    (outsAt0 m c t0_11.val t0_11.isLt).2.2.2.2.1 (ix2 a d)
      = ∑ f : Fin 6144, Q m c a f * wtS (δ m c) (αp m c) (αn m c) (W m c d f) := by
  have h := Pipeline.eq_sum_fin_of_reset_step_apply_last (N := cfg0.N)
    (fun n hn (_ : Unit) => ((outsAt0 m c n hn).2.2.2.2.1 (ix2 a d) : EReal)) 12 (fun _ => 0)
    (fun t _ => ∑ f : Fin 512, Q m c a (feat t f) * wtS (δ m c) (αp m c) (αn m c) (W m c d (feat t f)))
    (fun t h0 _ => by
      rw [zero_add]
      exact acc_A m c t h0 (by omega) a d)
    (fun t h0 _ => by
      by_cases h1 : t.val % 12 = 11
      · exact acc_C m c t h0 h1 a d
      · exact acc_B m c t h0 h1 a d)
    (le_of_eq N_0) t0_11 rfl ()
  refine h.trans ?_
  rw [zero_add]
  exact sum_feat fun f => Q m c a f * wtS (δ m c) (αp m c) (αn m c) (W m c d f)

/-- The last point leaves in row `r`, lane `f` the masked gradients of all blocks at the rows `8 a + r`. -/
theorem sp_end (r : Fin 8) (f : Fin 512) :
    (outsAt0 m c t0_11.val t0_11.isLt).2.2.2.2.2.2.1 (ix2 r f)
      = ∑ t : Fin cfg0.N, ∑ a : Fin 256, gpS (δ m c) (W m c ⟨a * 8 + r, by omega⟩ (feat t f)) (G m c ⟨a * 8 + r, by omega⟩ (feat t f)) := by
  have h := Pipeline.eq_sum_fin_of_reset_step_apply_last (N := cfg0.N)
    (fun n hn (_ : Unit) => ((outsAt0 m c n hn).2.2.2.2.2.2.1 (ix2 r f) : EReal)) 12 (fun _ => 0)
    (fun t _ => ∑ a : Fin 256, gpS (δ m c) (W m c ⟨a * 8 + r, by omega⟩ (feat t f)) (G m c ⟨a * 8 + r, by omega⟩ (feat t f)))
    (fun t h0 _ => by
      rw [zero_add]
      exact sp_A m c t h0 (by omega) r f)
    (fun t h0 _ => by
      by_cases h1 : t.val % 12 = 11
      · exact sp_C m c t h0 h1 r f
      · exact sp_B m c t h0 h1 r f)
    (le_of_eq N_0) t0_11 rfl ()
  refine h.trans ?_
  rw [zero_add]

/-- The same for the negative partial sums. -/
theorem sn_end (r : Fin 8) (f : Fin 512) :
    (outsAt0 m c t0_11.val t0_11.isLt).2.2.2.2.2.2.2 (ix2 r f)
      = ∑ t : Fin cfg0.N, ∑ a : Fin 256, gnS (δ m c) (W m c ⟨a * 8 + r, by omega⟩ (feat t f)) (G m c ⟨a * 8 + r, by omega⟩ (feat t f)) := by
  have h := Pipeline.eq_sum_fin_of_reset_step_apply_last (N := cfg0.N)
    (fun n hn (_ : Unit) => ((outsAt0 m c n hn).2.2.2.2.2.2.2 (ix2 r f) : EReal)) 12 (fun _ => 0)
    (fun t _ => ∑ a : Fin 256, gnS (δ m c) (W m c ⟨a * 8 + r, by omega⟩ (feat t f)) (G m c ⟨a * 8 + r, by omega⟩ (feat t f)))
    (fun t h0 _ => by
      rw [zero_add]
      exact sn_A m c t h0 (by omega) r f)
    (fun t h0 _ => by
      by_cases h1 : t.val % 12 = 11
      · exact sn_C m c t h0 h1 r f
      · exact sn_B m c t h0 h1 r f)
    (le_of_eq N_0) t0_11 rfl ()
  refine h.trans ?_
  rw [zero_add]

/-- The input gradient the kernel returns, tokens in one row. -/
theorem final7 : (dats m 0 c).arrAt 7 cfg0.N = fun j : S1536x2048.Idx => DX m c (j 0) (j 1) := by
  refine (dats m 0 c).arrAt_eq_of_after_last 7 t0_11 (by decide +kernel) _ fun j => ?_
  blk_simp
  rw [after0_7]
  idx_vars j
  exact (dx_C m c t0_11 (by decide) (by decide) _ _).trans (congrArg _ (acc_end m c _ _))

/-- The gradient of the positive scale the kernel returns. -/
theorem final9 : (dats m 0 c).arrAt 9 cfg0.N = fun _ : S1.Idx => DWP m c := by
  refine (dats m 0 c).arrAt_eq_of_after_last 9 t0_11 (by decide +kernel) _ fun j => ?_
  blk_simp
  rw [after0_9]
  refine (dwp_C m c t0_11 (by decide) (by decide) _).trans ?_
  simp only [sp_end]
  exact sum_rows fun d f => gpS (δ m c) (W m c d f) (G m c d f)

/-- The gradient of the negative scale the kernel returns. -/
theorem final10 : (dats m 0 c).arrAt 10 cfg0.N = fun _ : S1.Idx => DWN m c := by
  refine (dats m 0 c).arrAt_eq_of_after_last 10 t0_11 (by decide +kernel) _ fun j => ?_
  blk_simp
  rw [after0_10]
  refine (dwn_C m c t0_11 (by decide) (by decide) _).trans ?_
  simp only [sn_end]
  exact congrArg _ (sum_rows fun d f => gnS (δ m c) (W m c d f) (G m c d f))

/-- Which block of the weight gradient each grid point writes: block column `t`. -/
theorem idx8 : ∀ t : Fin cfg0.N, win0_8.index t = ![0, t.val] :=
  (by decide +kernel : ∀ t : Fin grid0.N, _)

/-- What a grid point writes of the weight gradient. -/
theorem dw_all (t : Fin cfg0.N) (d : Fin 2048) (f : Fin 512) :
    (outsAt0 m c t.val t.isLt).2.1 (ix2 d f) = DW m c d (feat t f) := by
  by_cases h0 : t.val % 12 = 0
  · exact dw_A m c t h0 (by omega) d f
  · by_cases h1 : t.val % 12 = 11
    · exact dw_C m c t h0 h1 d f
    · exact dw_B m c t h0 h1 d f

/-- The weight gradient the kernel returns. -/
theorem final8 : (dats m 0 c).arrAt 8 cfg0.N = fun j : S2048x6144.Idx => DW m c (j 0) (j 1) := by
  refine (dats m 0 c).arrAt_eq_of_covers 8 _ (by decide +kernel) fun t hf y => ?_
  blk_simp
  rw [after0_8]
  idx_vars y
  have h : (((cfg0.win 8).blk t).view.emb (ix2 y0 y1) : S2048x6144.Idx) = ix2 y0 (feat t y1) := by
    blk_ext [idx8 t, feat]
  exact (dw_all m c t _ _).trans (congrArg (fun j : S2048x6144.Idx => DW m c (j 0) (j 1)) h).symm

end Cert.Proof.Final
-- ==== Proof.RunK.lean ====
/- The kernel's run: what its four results hold at the end, as functions of the arguments. -/
module

public import proofs.«01_k».proof.Proof.Final
public import Idealize.ShloMosaic.Lib.Claim
public import Idealize.ShloMosaic.Lib.Pipeline.FrameTail

@[expose] public section

set_option maxRecDepth 16384

noncomputable section

namespace Cert.Proof.RunK

open Idealize.ShloMosaic Idealize.ShloMosaic.TcCoe Idealize.SL.Sem
open Idealize.ShloMosaic.Pipeline (Dat)
open Cert.KernelIdeal Cert.KernelIdeal.Gen Cert.Proof.Final

variable (m : (ℓ : Loc nD τ sig) → Buf (Elt Ideal) ℓ) (c : Dev nD)

/-- The input gradient as returned. -/
def res0 : Vec Ideal S3x512x2048 .bf16 := fun j => DX m c ⟨(j 0).val * 512 + (j 1).val, by have h0 := (j 0).isLt; have h1 := (j 1).isLt; change _ < 3 at h0; change _ < 512 at h1; omega⟩ (j 2)

/-- The weight gradient as returned. -/
def res1 : Vec Ideal S2048x6144 .f32 := fun j => DW m c (j 0) (j 1)

/-- The gradient of the positive scale as returned. -/
def res2 : Vec Ideal S_ .f32 := fun _ => DWP m c

/-- The gradient of the negative scale as returned. -/
def res3 : Vec Ideal S_ .f32 := fun _ => DWN m c

/-- Splitting the token axis of the input gradient. -/
theorem split7 (v : Vec Ideal S1536x2048 .bf16) (b : Fin 3) (s : Fin 512) (d : Fin 2048) :
    shapeCast S3x512x2048 v shapeCasts_S1536x2048_S3x512x2048 (ix3 b s d) = v (ix2 ⟨b.val * 512 + s.val, by omega⟩ d) := by
  pointwise

/-- A one-element array read as a scalar. -/
theorem scal (v : Vec Ideal S1 .f32) : shapeCast S_ v shapeCasts_S1_S_ ix0 = v (ix1 0) := by
  pointwise

/-- What window `w`'s array holds after the region. -/
theorem arr_at (w : Fin 11) : Pipeline.withArrays (cfgs 0).spec c (V0 m c) (fun w => (dats m 0 c).arrAt w (cfgs 0).N) (Proc.devRef .tc (Pipeline.arrRef (cfgs 0).spec w)) = (dats m 0 c).arrAt w (cfgs 0).N :=
  Pipeline.withArrays_arr (cfgs 0).spec launch0.win.arr_inj c (V0 m c) _ w

/-- The input gradient at the end of the program. -/
theorem tail7 : Pipeline.afterTail₀ cfgs (dats m) 0 (V0 m) [hostOps1] c main_v7 = res0 m c := by
  unfold Pipeline.afterTail₀
  simp only [List.flatten_cons, List.flatten_nil, List.append_nil]
  unfold hostOps1
  after_region_results
  have e := (arr_at m c 7).trans (final7 m c)
  funext j
  obtain ⟨b, s, d, rfl⟩ : ∃ b s d, j = ix3 b s d := ⟨j 0, j 1, j 2, by funext k; fin_cases k <;> rfl⟩
  refine (split7 _ b s d).trans ?_
  exact congrFun e _

/-- The weight gradient at the end of the program. -/
theorem tail1 : Pipeline.afterTail₀ cfgs (dats m) 0 (V0 m) [hostOps1] c main_v6_1 = res1 m c := by
  unfold Pipeline.afterTail₀
  simp only [List.flatten_cons, List.flatten_nil, List.append_nil]
  unfold hostOps1
  after_region_results
  exact (arr_at m c 8).trans (final8 m c)

/-- The gradient of the positive scale at the end of the program. -/
theorem tail8 : Pipeline.afterTail₀ cfgs (dats m) 0 (V0 m) [hostOps1] c main_v8 = res2 m c := by
  unfold Pipeline.afterTail₀
  simp only [List.flatten_cons, List.flatten_nil, List.append_nil]
  unfold hostOps1
  after_region_results
  have e := (arr_at m c 9).trans (final9 m c)
  funext j
  obtain rfl : j = ix0 := by funext k; exact k.elim0
  refine (scal _).trans ?_
  exact congrFun e _

/-- The gradient of the negative scale at the end of the program. -/
theorem tail9 : Pipeline.afterTail₀ cfgs (dats m) 0 (V0 m) [hostOps1] c main_v9 = res3 m c := by
  unfold Pipeline.afterTail₀
  simp only [List.flatten_cons, List.flatten_nil, List.append_nil]
  unfold hostOps1
  after_region_results
  have e := (arr_at m c 10).trans (final10 m c)
  funext j
  obtain rfl : j = ix0 := by funext k; exact k.elim0
  refine (scal _).trans ?_
  exact congrFun e _

/-- The kernel's program: its four results at the end, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v7) = res0 m c
      ∧ r.2.mem ((c.tc : Thread nD τ).loc main_v6_1) = res1 m c
      ∧ r.2.mem ((c.tc : Thread nD τ).loc main_v8) = res2 m c
      ∧ r.2.mem ((c.tc : Thread nD τ).loc main_v9) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (run_main m ρ) (unchanged m ρ)
  refine (θ_run defs _ _).mono (fun r h c => ?_) h
  exact ⟨(h.1 c).2 main_v7 (by decide) |>.trans (tail7 m c), (h.1 c).1 8 |>.trans (final8 m c),
    (h.1 c).2 main_v8 (by decide) |>.trans (tail8 m c), (h.1 c).2 main_v9 (by decide) |>.trans (tail9 m c), h.2 c⟩

end Cert.Proof.RunK
-- ==== Proof.RefTerms.lean ====
/- The reference's operations composed, as plain functions of the arrays they read, and what each holds at one element
   over the extended reals. -/
module

public import proofs.«01_k».proof.Proof.Gen.ReferenceIdeal.Frame
public import proofs.«01_k».proof.Proof.Pure
public import Idealize.ShloMosaic.Lib.Pointwise

@[expose] public section

set_option maxRecDepth 16384

noncomputable section

namespace Cert.Proof.RefTerms

open Idealize.ShloMosaic Idealize.ShloMosaic.TcCoe Idealize.SL.Sem
open Cert.ReferenceIdeal Cert.ReferenceIdeal.Gen

/-- Where the weight exceeds the threshold. -/
def rP (δ : FVec Ideal S_ .f32) (w : FVec Ideal S2048x6144 .f32) : Vec Ideal S2048x6144 .i1 :=
  cmpf .ogt w (broadcastInDim S2048x6144 ![] bcast_S_S2048x6144 δ)

/-- Where the weight is below minus the threshold. -/
def rN (δ : FVec Ideal S_ .f32) (w : FVec Ideal S2048x6144 .f32) : Vec Ideal S2048x6144 .i1 :=
  cmpf .olt w (broadcastInDim S2048x6144 ![] bcast_S_S2048x6144 (Host.negf δ))

/-- The gradient against the dequantized codes: contracted over both token axes. -/
def rG (x : FVec Ideal S3x512x2048 .bf16) (q : FVec Ideal S3x512x6144 .bf16) (s : FVec Ideal S3x512 .f32) : FVec Ideal S2048x6144 .f32 :=
  Host.dotGeneral dot_S3x512x2048_S3x512x6144_S2048x6144_01_01_2_2_n_n none x
    (mulf q (broadcastInDim S3x512x6144 ![0, 1, 2] bcast_S3x512x1_S3x512x6144_0_1_2
      (broadcastInDim S3x512x1 ![0, 1] bcast_S3x512_S3x512x1_0_1 (truncf .bf16 s bitsLt_bf16_f32))))

/-- The weight gradient. -/
def rDW (p n : Vec Ideal S2048x6144 .i1) (a b : FVec Ideal S_ .f32) (g : FVec Ideal S2048x6144 .f32) : FVec Ideal S2048x6144 .f32 :=
  select p (mulf (broadcastInDim S2048x6144 ![] bcast_S_S2048x6144 a) g)
    (select n (mulf (broadcastInDim S2048x6144 ![] bcast_S_S2048x6144 b) g) g)

/-- The sum of the gradient over a mask. -/
def rSum (p : Vec Ideal S2048x6144 .i1) (g : FVec Ideal S2048x6144 .f32) : FVec Ideal S_ .f32 :=
  Host.reduceAdd (select p g (broadcastInDim S2048x6144 ![] bcast_S_S2048x6144 (id (constant (F := Ideal) S_ .f32 0x00000000#32))))
    (constant S_ .f32 0x00000000#32) reducesTo_S2048x6144_S_d0_1 h_S_

/-- The ternary weight. -/
def rWT (p n : Vec Ideal S2048x6144 .i1) (a b : FVec Ideal S_ .f32) : FVec Ideal S2048x6144 .f32 :=
  select p (broadcastInDim S2048x6144 ![] bcast_S_S2048x6144 a)
    (select n (broadcastInDim S2048x6144 ![] bcast_S_S2048x6144 (Host.negf b))
      (broadcastInDim S2048x6144 ![] bcast_S_S2048x6144 (id (constant (F := Ideal) S_ .f32 0x00000000#32))))

/-- The input gradient. -/
def rDX (q : FVec Ideal S3x512x6144 .bf16) (s : FVec Ideal S3x512 .f32) (wt : FVec Ideal S2048x6144 .f32) : FVec Ideal S3x512x2048 .bf16 :=
  truncf .bf16 (mulf (broadcastInDim S3x512x2048 ![0, 1, 2] bcast_S3x512x1_S3x512x2048_0_1_2
      (broadcastInDim S3x512x1 ![0, 1] bcast_S3x512_S3x512x1_0_1 s))
    (Host.dotGeneral dot_S3x512x6144_S2048x6144_S3x512x2048_2_1_01_0_n_n none q (truncf .bf16 wt bitsLt_bf16_f32))) bitsLt_bf16_f32

/-- One entry of the full gradient: the sum over both token axes. -/
theorem rG_at (x : FVec Ideal S3x512x2048 .bf16) (q : FVec Ideal S3x512x6144 .bf16) (s : FVec Ideal S3x512 .f32) (d : Fin 2048) (f : Fin 6144) :
    rG x q s (ix2 d f) = ∑ b : Fin 3, ∑ t : Fin 512, x (ix3 b t d) * (q (ix3 b t f) * s (ix2 b t)) := by
  pointwise [rG]

/-- One entry of the weight gradient. -/
theorem rDW_at (δ a b : FVec Ideal S_ .f32) (w g : FVec Ideal S2048x6144 .f32) (d : Fin 2048) (f : Fin 6144) :
    rDW (rP δ w) (rN δ w) a b g (ix2 d f) = Pure.dwS (δ ix0) (a ix0) (b ix0) (w (ix2 d f)) (g (ix2 d f)) := by
  pointwise [rDW, rP, rN, Pure.dwS]

/-- The sum of the gradient where the weight is above the threshold. -/
theorem rSumP_at (δ : FVec Ideal S_ .f32) (w g : FVec Ideal S2048x6144 .f32) :
    rSum (rP δ w) g ix0 = ∑ d : Fin 2048, ∑ f : Fin 6144, Pure.gpS (δ ix0) (w (ix2 d f)) (g (ix2 d f)) := by
  pointwise [rSum, id, rP, Pure.gpS]

/-- The sum of the gradient where the weight is below minus the threshold. -/
theorem rSumN_at (δ : FVec Ideal S_ .f32) (w g : FVec Ideal S2048x6144 .f32) :
    rSum (rN δ w) g ix0 = ∑ d : Fin 2048, ∑ f : Fin 6144, Pure.gnS (δ ix0) (w (ix2 d f)) (g (ix2 d f)) := by
  pointwise [rSum, id, rN, Pure.gnS]

/-- One entry of the ternary weight. -/
theorem rWT_at (δ a b : FVec Ideal S_ .f32) (w : FVec Ideal S2048x6144 .f32) (d : Fin 2048) (f : Fin 6144) :
    rWT (rP δ w) (rN δ w) a b (ix2 d f) = Pure.wtS (δ ix0) (a ix0) (b ix0) (w (ix2 d f)) := by
  pointwise [rWT, id, rP, rN, Pure.wtS]

/-- One entry of the input gradient: the token's scale times the codes against the ternary weight. -/
theorem rDX_at (q : FVec Ideal S3x512x6144 .bf16) (s : FVec Ideal S3x512 .f32) (wt : FVec Ideal S2048x6144 .f32) (b : Fin 3) (t : Fin 512) (d : Fin 2048) :
    rDX q s wt (ix3 b t d) = s (ix2 b t) * ∑ f : Fin 6144, q (ix3 b t f) * wt (ix2 d f) := by
  pointwise [rDX]

end Cert.Proof.RefTerms
-- ==== Proof.RunR.lean ====
/- The reference's run: what its four results hold at the end, as terms over the arguments. -/
module

public import proofs.«01_k».proof.Proof.Gen.ReferenceIdeal.Frame
public import Idealize.ShloMosaic.Lib.Claim
public import Idealize.ShloMosaic.Lib.Pipeline.FrameTail
public import Idealize.ShloMosaic.Lib.Pipeline.ReadBack
public import Idealize.ShloMosaic.Lib.StableHlo.RunRead
public import proofs.«01_k».proof.Proof.RefTerms
public import Idealize.ShloMosaic.Lib.Pipeline.ValueKit
public import Idealize.ShloMosaic.Lib.Pointwise

@[expose] public section

set_option maxRecDepth 16384

noncomputable section

namespace Cert.Proof.RunR

open Idealize.ShloMosaic Idealize.ShloMosaic.TcCoe Idealize.SL.Sem
open Idealize.ShloMosaic.Pipeline (Dat)
open Cert.ReferenceIdeal Cert.ReferenceIdeal.Gen Cert.Proof.RefTerms

variable (m : (ℓ : Loc nD τ sig) → Buf (Elt Ideal) ℓ) (c : Dev nD)

/-- The lines after the region. -/
abbrev tailOps : List (List (HloOp τ sig (Elt Ideal))) := [hostOps1, hostOps1_1, hostOps1_2, hostOps1_3, hostOps1_4, hostOps1_5, hostOps1_6, hostOps1_7, hostOps1_8, hostOps1_9, hostOps1_10]

/-- The lines after the region leave the input gradient at `rDX` of what they find. -/
theorem lines30 (W : Valuation τ sig (Elt Ideal)) :
    StableHlo.after (List.flatten tailOps) W (Proc.devRef .tc main_v30)
      = rDX (W (Proc.devRef .tc main_v5)) (W (Proc.devRef .tc main_arg2))
          (rWT (W (Proc.devRef .tc main_v1)) (W (Proc.devRef .tc main_v4)) (W (Proc.devRef .tc main_arg5)) (W (Proc.devRef .tc main_arg6))) := by
  after_reads_simp
  rfl

/-- The lines after the region leave the weight gradient at `rDW` of what they find. -/
theorem lines16 (W : Valuation τ sig (Elt Ideal)) :
    StableHlo.after (List.flatten tailOps) W (Proc.devRef .tc main_v16)
      = rDW (W (Proc.devRef .tc main_v1)) (W (Proc.devRef .tc main_v4)) (W (Proc.devRef .tc main_arg5)) (W (Proc.devRef .tc main_arg6))
          (rG (W (Proc.devRef .tc main_arg0)) (W (Proc.devRef .tc main_v5)) (W (Proc.devRef .tc main_arg2))) := by
  after_reads_simp
  rfl

/-- The lines after the region leave the gradient of the positive scale at a masked sum. -/
theorem lines18 (W : Valuation τ sig (Elt Ideal)) :
    StableHlo.after (List.flatten tailOps) W (Proc.devRef .tc main_v18)
      = rSum (W (Proc.devRef .tc main_v1))
          (rG (W (Proc.devRef .tc main_arg0)) (W (Proc.devRef .tc main_v5)) (W (Proc.devRef .tc main_arg2))) := by
  after_reads_simp
  rfl

/-- The lines after the region leave the gradient of the negative scale at a negated masked sum. -/
theorem lines21 (W : Valuation τ sig (Elt Ideal)) :
    StableHlo.after (List.flatten tailOps) W (Proc.devRef .tc main_v21)
      = (Host.negf (rSum (W (Proc.devRef .tc main_v4))
          (rG (W (Proc.devRef .tc main_arg0)) (W (Proc.devRef .tc main_v5)) (W (Proc.devRef .tc main_arg2)))) : FVec Ideal S_ .f32) := by
  after_reads_simp
  rfl

/-- The region's result: the codes, cast. -/
theorem codes : (dats m 0 c).arrAt 1 cfg0.N = (m ((c.tc : Thread nD τ).loc main_arg1) : Vec Ideal S3x512x6144 .fp8e5m2) := by
  refine (dats m 0 c).arrAt_eq_of_covers 1 _ (by decide +kernel) fun t hf y => ?_
  blk_simp
  rw [after0_1]
  have hi : iblk m c 0 t y = (m ((c.tc : Thread nD τ).loc main_arg1) : Vec Ideal S3x512x6144 .fp8e5m2) ((win0_1.blk t).view.emb y) := by
    unfold iblk
    rw [V_main_arg1]
    rfl
  rw [← hi]
  have ho : ∀ x : Vec Ideal S3x512x6144 .fp8e5m2, out0_1 x = x := by
    intro x
    unfold out0_1
    refine (View.canon_cons_unit_lit _ _ [] (by decide)).trans ?_
    funext i
    unfold k0_pay1
    exact congrFun (View.ld_unit_lit _ x (by decide)) i
  rw [ho]

/-- The valuation the lines after the region start from. -/
abbrev W1 : Valuation τ sig (Elt Ideal) :=
  Pipeline.withArrays (cfgs 0).spec c (V0 m c) (fun w => (dats m 0 c).arrAt w (cfgs 0).N)

/-- The codes, cast, as the lines after the region find them. -/
theorem W_v5 : W1 m c (Proc.devRef .tc main_v5) = (m ((c.tc : Thread nD τ).loc main_arg1) : Vec Ideal S3x512x6144 .fp8e5m2) :=
  (Pipeline.withArrays_arr (cfgs 0).spec launch0.win.arr_inj c (V0 m c) _ 1).trans (codes m c)

/-- Argument 0 as the lines after the region find it: as launched. -/
theorem W_arg0 : W1 m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)

/-- Argument 2 as the lines after the region find it: as launched. -/
theorem W_arg2 : W1 m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)

/-- Argument 3 as the lines after the region find it: as launched. -/
theorem W_arg3 : W1 m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

/-- Argument 4 as the lines after the region find it: as launched. -/
theorem W_arg4 : W1 m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)

/-- Argument 5 as the lines after the region find it: as launched. -/
theorem W_arg5 : W1 m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

/-- Argument 6 as the lines after the region find it: as launched. -/
theorem W_arg6 : W1 m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)

/-- The mask above the threshold, as the lines after the region find it. -/
theorem W_v1 : W1 m c (Proc.devRef .tc main_v1) = rP (m ((c.tc : Thread nD τ).loc main_arg4)) (m ((c.tc : Thread nD τ).loc main_arg3)) := by
  refine (Pipeline.withArrays_of_ne _ c (V0 m c) _ main_v1 (by exact (by decide : ∀ w, Pipeline.arrRef spec0 w ≠ main_v1))).trans ?_
  unfold V0
  after_reads_simp
  rfl

/-- The mask below minus the threshold, as the lines after the region find it. -/
theorem W_v4 : W1 m c (Proc.devRef .tc main_v4) = rN (m ((c.tc : Thread nD τ).loc main_arg4)) (m ((c.tc : Thread nD τ).loc main_arg3)) := by
  refine (Pipeline.withArrays_of_ne _ c (V0 m c) _ main_v4 (by exact (by decide : ∀ w, Pipeline.arrRef spec0 w ≠ main_v4))).trans ?_
  unfold V0
  after_reads_simp
  rfl

/-- The reference's input gradient, from the arguments. -/
def out0 : FVec Ideal S3x512x2048 .bf16 :=
  rDX (m ((c.tc : Thread nD τ).loc main_arg1)) (m ((c.tc : Thread nD τ).loc main_arg2))
    (rWT (rP (m ((c.tc : Thread nD τ).loc main_arg4)) (m ((c.tc : Thread nD τ).loc main_arg3))) (rN (m ((c.tc : Thread nD τ).loc main_arg4)) (m ((c.tc : Thread nD τ).loc main_arg3)))
      (m ((c.tc : Thread nD τ).loc main_arg5)) (m ((c.tc : Thread nD τ).loc main_arg6)))

/-- The reference's full gradient of the weight, from the arguments. -/
def outG : FVec Ideal S2048x6144 .f32 :=
  rG (m ((c.tc : Thread nD τ).loc main_arg0)) (m ((c.tc : Thread nD τ).loc main_arg1)) (m ((c.tc : Thread nD τ).loc main_arg2))

/-- The reference's weight gradient, from the arguments. -/
def out1 : FVec Ideal S2048x6144 .f32 :=
  rDW (rP (m ((c.tc : Thread nD τ).loc main_arg4)) (m ((c.tc : Thread nD τ).loc main_arg3))) (rN (m ((c.tc : Thread nD τ).loc main_arg4)) (m ((c.tc : Thread nD τ).loc main_arg3)))
    (m ((c.tc : Thread nD τ).loc main_arg5)) (m ((c.tc : Thread nD τ).loc main_arg6)) (outG m c)

/-- The reference's gradient of the positive scale, from the arguments. -/
def out2 : FVec Ideal S_ .f32 :=
  rSum (rP (m ((c.tc : Thread nD τ).loc main_arg4)) (m ((c.tc : Thread nD τ).loc main_arg3))) (outG m c)

/-- The reference's gradient of the negative scale, from the arguments. -/
def out3 : FVec Ideal S_ .f32 :=
  Host.negf (rSum (rN (m ((c.tc : Thread nD τ).loc main_arg4)) (m ((c.tc : Thread nD τ).loc main_arg3))) (outG m c))

/-- The input gradient at the end of the reference. -/
theorem tail30 : Pipeline.afterTail₀ cfgs (dats m) 0 (V0 m) tailOps c main_v30 = out0 m c := by
  refine (lines30 (W1 m c)).trans ?_
  rw [W_v5, W_v1, W_v4, W_arg2, W_arg5, W_arg6]
  rfl

/-- The weight gradient at the end of the reference. -/
theorem tail16 : Pipeline.afterTail₀ cfgs (dats m) 0 (V0 m) tailOps c main_v16 = out1 m c := by
  refine (lines16 (W1 m c)).trans ?_
  rw [W_v5, W_v1, W_v4, W_arg0, W_arg2, W_arg5, W_arg6]
  rfl

/-- The gradient of the positive scale at the end of the reference. -/
theorem tail18 : Pipeline.afterTail₀ cfgs (dats m) 0 (V0 m) tailOps c main_v18 = out2 m c := by
  refine (lines18 (W1 m c)).trans ?_
  rw [W_v5, W_v1, W_arg0, W_arg2]
  rfl

/-- The gradient of the negative scale at the end of the reference. -/
theorem tail21 : Pipeline.afterTail₀ cfgs (dats m) 0 (V0 m) tailOps c main_v21 = out3 m c := by
  refine (lines21 (W1 m c)).trans ?_
  rw [W_v5, W_v4, W_arg0, W_arg2]
  rfl

/-- The reference's program: its four results at the end, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v30) = out0 m c
      ∧ r.2.mem ((c.tc : Thread nD τ).loc main_v16) = out1 m c
      ∧ r.2.mem ((c.tc : Thread nD τ).loc main_v18) = out2 m c
      ∧ r.2.mem ((c.tc : Thread nD τ).loc main_v21) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (run_main m ρ) (unchanged m ρ)
  refine (θ_run defs _ _).mono (fun r h c => ?_) h
  exact ⟨(h.1 c).2 main_v30 (by decide) |>.trans (tail30 m c), (h.1 c).2 main_v16 (by decide) |>.trans (tail16 m c),
    (h.1 c).2 main_v18 (by decide) |>.trans (tail18 m c), (h.1 c).2 main_v21 (by decide) |>.trans (tail21 m c), h.2 c⟩

end Cert.Proof.RunR
-- ==== Proof.Match.lean ====
/- The two programs' results are the same: each of the reference's terms, read at one element, is the kernel's value
   there, once the token axis of the kernel is split into the reference's two. -/
module

public import proofs.«01_k».proof.Proof.RunK
public import proofs.«01_k».proof.Proof.RunR
public import Idealize.ShloMosaic.Lib.Pipeline.ValueKit

@[expose] public section

set_option maxRecDepth 16384

noncomputable section

namespace Cert.Proof.Match

open Idealize.ShloMosaic Idealize.ShloMosaic.TcCoe Idealize.SL.Sem
open Cert.KernelIdeal Cert.Proof.Blocks Cert.Proof.Step Cert.Proof.Final Cert.Proof.RefTerms

variable (m : (ℓ : Loc nD τ sig) → Buf (Elt Ideal) ℓ) (c : Dev nD)

/-- The block of token `b * 512 + t` is `b`. -/
theorem div_tok (b : Fin 3) (t : Fin 512) (h) : (⟨(b.val * 512 + t.val) / 512, h⟩ : Fin 3) = b := Fin.ext (by simp only; omega)

/-- The place of token `b * 512 + t` in its block is `t`. -/
theorem mod_tok (b : Fin 3) (t : Fin 512) (h) : (⟨(b.val * 512 + t.val) % 512, h⟩ : Fin 512) = t := Fin.ext (by simp only; omega)

/-- The activations as the reference reads them. -/
abbrev vx : FVec Ideal S3x512x2048 .bf16 := m ((c.tc : Thread nD τ).loc main_arg0)
/-- The codes as the reference reads them. -/
abbrev vq : Vec Ideal S3x512x6144 .fp8e5m2 := m ((c.tc : Thread nD τ).loc main_arg1)
/-- The scales as the reference reads them. -/
abbrev vs : FVec Ideal S3x512 .f32 := m ((c.tc : Thread nD τ).loc main_arg2)
/-- The weight as the reference reads it. -/
abbrev vw : FVec Ideal S2048x6144 .f32 := m ((c.tc : Thread nD τ).loc main_arg3)
/-- The threshold as the reference reads it. -/
abbrev vd : FVec Ideal S_ .f32 := m ((c.tc : Thread nD τ).loc main_arg4)
/-- The positive scale as the reference reads it. -/
abbrev vp : FVec Ideal S_ .f32 := m ((c.tc : Thread nD τ).loc main_arg5)
/-- The negative scale as the reference reads it. -/
abbrev vn : FVec Ideal S_ .f32 := m ((c.tc : Thread nD τ).loc main_arg6)

/-- The full gradient: the sum over tokens is the sum over the two token axes. -/
theorem g_eq (d : Fin 2048) (f : Fin 6144) : rG (vx m c) (vq m c) (vs m c) (ix2 d f) = G m c d f := by
  rw [rG_at]
  exact (Fin.sum_divmod_fin (M := EReal) 512 fun (b : Fin 3) (t : Fin 512) => vx m c (ix3 b t d) * (vq m c (ix3 b t f) * vs m c (ix2 b t))).symm

/-- The weight gradients agree. -/
theorem dw_eq : rDW (rP (vd m c) (vw m c)) (rN (vd m c) (vw m c)) (vp m c) (vn m c) (rG (vx m c) (vq m c) (vs m c)) = RunK.res1 m c := by
  funext j
  obtain ⟨d, f, rfl⟩ : ∃ d f, j = ix2 d f := ⟨j 0, j 1, by funext k; fin_cases k <;> rfl⟩
  rw [rDW_at, g_eq]
  rfl

/-- The gradients of the positive scale agree. -/
theorem dwp_eq : rSum (rP (vd m c) (vw m c)) (rG (vx m c) (vq m c) (vs m c)) = RunK.res2 m c := by
  funext j
  obtain rfl : j = ix0 := by funext k; exact k.elim0
  rw [rSumP_at]
  simp only [g_eq]
  rfl

/-- The gradients of the negative scale agree. -/
theorem dwn_eq : (Host.negf (rSum (rN (vd m c) (vw m c)) (rG (vx m c) (vq m c) (vs m c))) : FVec Ideal S_ .f32) = RunK.res3 m c := by
  funext j
  obtain rfl : j = ix0 := by funext k; exact k.elim0
  have h := rSumN_at (vd m c) (vw m c) (rG (vx m c) (vq m c) (vs m c))
  simp only [g_eq] at h
  exact congrArg (fun e : EReal => -e) h

/-- The input gradients agree. -/
theorem dx_eq : rDX (vq m c) (vs m c) (rWT (rP (vd m c) (vw m c)) (rN (vd m c) (vw m c)) (vp m c) (vn m c)) = RunK.res0 m c := by
  funext j
  obtain ⟨b, t, d, rfl⟩ : ∃ b t d, j = ix3 b t d := ⟨j 0, j 1, j 2, by funext k; fin_cases k <;> rfl⟩
  rw [rDX_at]
  simp only [rWT_at]
  show _ = DX m c ⟨b.val * 512 + t.val, _⟩ d
  unfold DX S Q
  rw [div_tok, mod_tok]
  rfl

end Cert.Proof.Match
-- ==== Proof.lean ====
/- The certificate: the three programs keep their arguments, the idealized kernel is the kernel's own code, and over the
   extended reals the kernel and the reference return the same four results. -/
module

public import proofs.«01_k».proof.Defs
public import proofs.«01_k».proof.Proof.Gen.Kernel
public import proofs.«01_k».proof.Proof.Gen.Kernel.Frame
public import proofs.«01_k».proof.Proof.Match
public import Idealize.ShloMosaic.Lib.Claim

@[expose] public section

set_option maxRecDepth 16384

noncomputable section

namespace Cert.Proof

open Idealize.ShloMosaic Idealize.ShloMosaic.TcCoe Idealize.SL.Sem

/-- Over the extended reals, from equal arguments, the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨RunK.res0 m, RunK.res1 m, RunK.res2 m, RunK.res3 m, RunK.run m g, ?_⟩
  refine θ_run_mono (RunR.run m' g') fun r h c => ?_
  obtain ⟨h0, h1, h2, h3, ha⟩ := h c
  obtain ⟨e0, e1, e2, e3, e4, e5, e6⟩ := hagree c
  refine ⟨h0.trans ?_, h1.trans ?_, h2.trans ?_, h3.trans ?_, ha⟩
  · unfold RunR.out0
    rw [e1, e2, e3, e4, e5, e6]
    exact Match.dx_eq m c
  · unfold RunR.out1 RunR.outG
    rw [e0, e1, e2, e3, e4, e5, e6]
    exact Match.dw_eq m c
  · unfold RunR.out2 RunR.outG
    rw [e0, e1, e2, e3, e4]
    exact Match.dwp_eq m c
  · unfold RunR.out3 RunR.outG
    rw [e0, e1, e2, e3, e4]
    exact Match.dwn_eq m c

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
